-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_scale" .f32 0x3DB504F3#32 (((Real.sqrt 128)⁻¹ : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S8192x64 : Shape := ⟨2, ![8192, 64]⟩
abbrev S8192x200x64 : Shape := ⟨3, ![8192, 200, 64]⟩
abbrev S8192x1x200 : Shape := ⟨3, ![8192, 1, 200]⟩
abbrev S64x128 : Shape := ⟨2, ![64, 128]⟩
abbrev S128x64 : Shape := ⟨2, ![128, 64]⟩
abbrev S_ : Shape := ⟨0, ![]⟩

class Facts : Prop where
  bcast_S_S8192x64 : S_.BroadcastsInDim S8192x64 (![] : Fin 0 → Fin S8192x64.rank)
  bcast_S_S8192x200x64 : S_.BroadcastsInDim S8192x200x64 (![] : Fin 0 → Fin S8192x200x64.rank)
  bcast_S_S64x128 : S_.BroadcastsInDim S64x128 (![] : Fin 0 → Fin S64x128.rank)
  bcast_S_S128x64 : S_.BroadcastsInDim S128x64 (![] : Fin 0 → Fin S128x64.rank)

variable [Facts]

def fn {F : FTy → Type} [FloatOps F] (main_arg0 : FVec F S8192x64 .f32) (main_arg1 : FVec F S8192x200x64 .f32) (main_arg2 : IVec S8192x1x200 32) (main_arg3 : FVec F S64x128 .f32) (main_arg4 : FVec F S64x128 .f32) (main_arg5 : FVec F S64x128 .f32) (main_arg6 : FVec F S128x64 .f32) : IVec S8192x64 1 × IVec S8192x200x64 1 × IVec S64x128 1 × IVec S64x128 1 × IVec S64x128 1 × IVec S128x64 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_v3 : FVec F S8192x200x64 .f32 := Host.absf main_arg1
  let main_cst_0 : FVec F S_ .f32 := constant S_ .f32 0x7F800000#32
  let main_v4 : FVec F S8192x200x64 .f32 := broadcastInDim S8192x200x64 ![] bcast_S_S8192x200x64 main_cst_0
  let main_v5 : IVec S8192x200x64 1 := cmpf .olt main_v3 main_v4
  let main_v6 : FVec F S64x128 .f32 := Host.absf main_arg3
  let main_cst_1 : FVec F S_ .f32 := constant S_ .f32 0x7F800000#32
  let main_v7 : FVec F S64x128 .f32 := broadcastInDim S64x128 ![] bcast_S_S64x128 main_cst_1
  let main_v8 : IVec S64x128 1 := cmpf .olt main_v6 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_v12 : FVec F S64x128 .f32 := Host.absf main_arg5
  let main_cst_3 : FVec F S_ .f32 := constant S_ .f32 0x7F800000#32
  let main_v13 : FVec F S64x128 .f32 := broadcastInDim S64x128 ![] bcast_S_S64x128 main_cst_3
  let main_v14 : IVec S64x128 1 := cmpf .olt main_v12 main_v13
  let main_v15 : FVec F S128x64 .f32 := Host.absf main_arg6
  let main_cst_4 : FVec F S_ .f32 := constant S_ .f32 0x7F800000#32
  let main_v16 : FVec F S128x64 .f32 := broadcastInDim S128x64 ![] bcast_S_S128x64 main_cst_4
  let main_v17 : IVec S128x64 1 := cmpf .olt main_v15 main_v16
  (main_v2, main_v5, main_v8, main_v11, main_v14, main_v17)
-- ==== Kernel.lean ====
abbrev S8192x64 : Shape := ⟨2, ![8192, 64]⟩
abbrev S8192x200x64 : Shape := ⟨3, ![8192, 200, 64]⟩
abbrev S8192x1x200 : Shape := ⟨3, ![8192, 1, 200]⟩
abbrev S64x128 : Shape := ⟨2, ![64, 128]⟩
abbrev S128x64 : Shape := ⟨2, ![128, 64]⟩
abbrev S8192x12800 : Shape := ⟨2, ![8192, 12800]⟩
abbrev S8192x25x1x8 : Shape := ⟨4, ![8192, 25, 1, 8]⟩
abbrev S8192x25x16x8 : Shape := ⟨4, ![8192, 25, 16, 8]⟩
abbrev S8192x3200 : Shape := ⟨2, ![8192, 3200]⟩
abbrev S256x64 : Shape := ⟨2, ![256, 64]⟩
abbrev S256x12800 : Shape := ⟨2, ![256, 12800]⟩
abbrev S256x3200 : Shape := ⟨2, ![256, 3200]⟩
abbrev S64x64 : Shape := ⟨2, ![64, 64]⟩
abbrev S256x512 : Shape := ⟨2, ![256, 512]⟩
abbrev S512x128 : Shape := ⟨2, ![512, 128]⟩
abbrev S128x512 : Shape := ⟨2, ![128, 512]⟩
abbrev S256x128 : Shape := ⟨2, ![256, 128]⟩
abbrev S1x64x64 : Shape := ⟨3, ![1, 64, 64]⟩
abbrev S8x64x64 : Shape := ⟨3, ![8, 64, 64]⟩
abbrev S512x64 : Shape := ⟨2, ![512, 64]⟩

abbrev nBuf : Space → Nat
  | .hbm => 13
  | .vmem => 12
  | .smem => 0
  | _ => 0

abbrev bufTy : (tb : Table) → Fin (tcTables nBuf tb) → BufTy
  | .hbm, ⟨0, _⟩ => ⟨S8192x64, .f32⟩
  | .hbm, ⟨1, _⟩ => ⟨S8192x200x64, .f32⟩
  | .hbm, ⟨2, _⟩ => ⟨S8192x1x200, .i32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S128x64, .f32⟩
  | .hbm, ⟨7, _⟩ => ⟨S8192x12800, .f32⟩
  | .hbm, ⟨8, _⟩ => ⟨S8192x25x1x8, .i32⟩
  | .hbm, ⟨9, _⟩ => ⟨S8192x25x1x8, .bf16⟩
  | .hbm, ⟨10, _⟩ => ⟨S8192x25x16x8, .bf16⟩
  | .hbm, ⟨11, _⟩ => ⟨S8192x3200, .bf16⟩
  | .hbm, ⟨12, _⟩ => ⟨S8192x64, .f32⟩
  | .local _ .vmem, ⟨0, _⟩ => ⟨S256x64, .f32⟩
  | .local _ .vmem, ⟨1, _⟩ => ⟨S256x64, .f32⟩
  | .local _ .vmem, ⟨2, _⟩ => ⟨S256x12800, .f32⟩
  | .local _ .vmem, ⟨3, _⟩ => ⟨S256x12800, .f32⟩
  | .local _ .vmem, ⟨4, _⟩ => ⟨S256x3200, .bf16⟩
  | .local _ .vmem, ⟨5, _⟩ => ⟨S256x3200, .bf16⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S128x64, .f32⟩
  | .local _ .vmem, ⟨10, _⟩ => ⟨S256x64, .f32⟩
  | .local _ .vmem, ⟨11, _⟩ => ⟨S256x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def k0_mult1 : BitVec 32 :=
  let c0_i32_28 : BitVec 32 := 0#32
  c0_i32_28
def k0_mult2 : BitVec 32 :=
  let c512_i32 : BitVec 32 := 512#32
  c512_i32
@[reducible] def k0_t1_loop : Scf.Loop 32 :=
  let c1_i32_33 : BitVec 32 := 1#32
  let c11_i32 : BitVec 32 := 11#32
  let v89 : BitVec 32 := Scalar.addi c1_i32_33 c11_i32
  let c1_i32_34 : BitVec 32 := 1#32
  ⟨c1_i32_33, v89, c1_i32_34⟩
def k0_mult3 (k0_t1 : Fin k0_t1_loop.trips) : BitVec 32 :=
  let c2_i32 : BitVec 32 := 2#32
  let c1_i32_33 : BitVec 32 := 1#32
  let c1_i32_34 : BitVec 32 := 1#32
  let arg9 : BitVec 32 := Scf.iv c1_i32_33 c1_i32_34 k0_t1
  let v154 : BitVec 32 := Scalar.muli c2_i32 arg9
  let c512_i32_54 : BitVec 32 := 512#32
  let v155 : BitVec 32 := Scalar.muli v154 c512_i32_54
  v155
def k0_off1 (k0_t1 : Fin k0_t1_loop.trips) : Fin 2 → Nat :=
  let c0_55 : Index := 0#32
  let c2_i32 : BitVec 32 := 2#32
  let c1_i32_33 : BitVec 32 := 1#32
  let c1_i32_34 : BitVec 32 := 1#32
  let arg9 : BitVec 32 := Scf.iv c1_i32_33 c1_i32_34 k0_t1
  let v154 : BitVec 32 := Scalar.muli c2_i32 arg9
  let c512_i32_54 : BitVec 32 := 512#32
  let v155 : BitVec 32 := Scalar.muli v154 c512_i32_54
  let v156 : BitVec 32 := v155
  let v157 : Index := Scalar.indexCast v156
  ![0, v157.toNat]
def k0_mult4 (k0_t1 : Fin k0_t1_loop.trips) : BitVec 32 :=
  let c2_i32_57 : BitVec 32 := 2#32
  let c1_i32_33 : BitVec 32 := 1#32
  let c1_i32_34 : BitVec 32 := 1#32
  let arg9 : BitVec 32 := Scf.iv c1_i32_33 c1_i32_34 k0_t1
  let v163 : BitVec 32 := Scalar.muli c2_i32_57 arg9
  let c1_i32_58 : BitVec 32 := 1#32
  let v164 : BitVec 32 := Scalar.addi v163 c1_i32_58
  let c512_i32_59 : BitVec 32 := 512#32
  let v165 : BitVec 32 := Scalar.muli v164 c512_i32_59
  v165
def k0_off2 (k0_t1 : Fin k0_t1_loop.trips) : Fin 2 → Nat :=
  let c0_60 : Index := 0#32
  let c2_i32_57 : BitVec 32 := 2#32
  let c1_i32_33 : BitVec 32 := 1#32
  let c1_i32_34 : BitVec 32 := 1#32
  let arg9 : BitVec 32 := Scf.iv c1_i32_33 c1_i32_34 k0_t1
  let v163 : BitVec 32 := Scalar.muli c2_i32_57 arg9
  let c1_i32_58 : BitVec 32 := 1#32
  let v164 : BitVec 32 := Scalar.addi v163 c1_i32_58
  let c512_i32_59 : BitVec 32 := 512#32
  let v165 : BitVec 32 := Scalar.muli v164 c512_i32_59
  let v166 : BitVec 32 := v165
  let v167 : Index := Scalar.indexCast v166
  ![0, v167.toNat]
def k0_mult5 (k0_t1 : Fin k0_t1_loop.trips) : BitVec 32 :=
  let c2_i32_62 : BitVec 32 := 2#32
  let c1_i32_33 : BitVec 32 := 1#32
  let c1_i32_34 : BitVec 32 := 1#32
  let arg9 : BitVec 32 := Scf.iv c1_i32_33 c1_i32_34 k0_t1
  let v173 : BitVec 32 := Scalar.muli c2_i32_62 arg9
  let c2_i32_63 : BitVec 32 := 2#32
  let v174 : BitVec 32 := Scalar.subi v173 c2_i32_63
  let c512_i32_64 : BitVec 32 := 512#32
  let v175 : BitVec 32 := Scalar.muli v174 c512_i32_64
  v175
def k0_off3 (k0_t1 : Fin k0_t1_loop.trips) (c2_i32_63 : BitVec 32) : Fin 2 → Nat :=
  let c0_65 : Index := 0#32
  let c2_i32_62 : BitVec 32 := 2#32
  let c1_i32_33 : BitVec 32 := 1#32
  let c1_i32_34 : BitVec 32 := 1#32
  let arg9 : BitVec 32 := Scf.iv c1_i32_33 c1_i32_34 k0_t1
  let v173 : BitVec 32 := Scalar.muli c2_i32_62 arg9
  let v174 : BitVec 32 := Scalar.subi v173 c2_i32_63
  let c512_i32_64 : BitVec 32 := 512#32
  let v175 : BitVec 32 := Scalar.muli v174 c512_i32_64
  let v176 : BitVec 32 := v175
  let v177 : Index := Scalar.indexCast v176
  ![0, v177.toNat]
def k0_mult6 (k0_t1 : Fin k0_t1_loop.trips) : BitVec 32 :=
  let c2_i32_62 : BitVec 32 := 2#32
  let c1_i32_33 : BitVec 32 := 1#32
  let c1_i32_34 : BitVec 32 := 1#32
  let arg9 : BitVec 32 := Scf.iv c1_i32_33 c1_i32_34 k0_t1
  let v173 : BitVec 32 := Scalar.muli c2_i32_62 arg9
  let c2_i32_63 : BitVec 32 := 2#32
  let v174 : BitVec 32 := Scalar.subi v173 c2_i32_63
  let c128_i32 : BitVec 32 := 128#32
  let v180 : BitVec 32 := Scalar.muli v174 c128_i32
  v180
def k0_off4 (k0_t1 : Fin k0_t1_loop.trips) (c2_i32_63 : BitVec 32) : Fin 2 → Nat :=
  let c0_66 : Index := 0#32
  let c2_i32_62 : BitVec 32 := 2#32
  let c1_i32_33 : BitVec 32 := 1#32
  let c1_i32_34 : BitVec 32 := 1#32
  let arg9 : BitVec 32 := Scf.iv c1_i32_33 c1_i32_34 k0_t1
  let v173 : BitVec 32 := Scalar.muli c2_i32_62 arg9
  let v174 : BitVec 32 := Scalar.subi v173 c2_i32_63
  let c128_i32 : BitVec 32 := 128#32
  let v180 : BitVec 32 := Scalar.muli v174 c128_i32
  let v181 : BitVec 32 := v180
  let v182 : Index := Scalar.indexCast v181
  ![0, v182.toNat]
def k0_mult7 (k0_t1 : Fin k0_t1_loop.trips) : BitVec 32 :=
  let c2_i32_69 : BitVec 32 := 2#32
  let c1_i32_33 : BitVec 32 := 1#32
  let c1_i32_34 : BitVec 32 := 1#32
  let arg9 : BitVec 32 := Scf.iv c1_i32_33 c1_i32_34 k0_t1
  let v193 : BitVec 32 := Scalar.muli c2_i32_69 arg9
  let c1_i32_70 : BitVec 32 := 1#32
  let v194 : BitVec 32 := Scalar.subi v193 c1_i32_70
  let c512_i32_71 : BitVec 32 := 512#32
  let v195 : BitVec 32 := Scalar.muli v194 c512_i32_71
  v195
def k0_mult8 (k0_t1 : Fin k0_t1_loop.trips) : BitVec 32 :=
  let c2_i32_69 : BitVec 32 := 2#32
  let c1_i32_33 : BitVec 32 := 1#32
  let c1_i32_34 : BitVec 32 := 1#32
  let arg9 : BitVec 32 := Scf.iv c1_i32_33 c1_i32_34 k0_t1
  let v193 : BitVec 32 := Scalar.muli c2_i32_69 arg9
  let c1_i32_70 : BitVec 32 := 1#32
  let v194 : BitVec 32 := Scalar.subi v193 c1_i32_70
  let c128_i32_73 : BitVec 32 := 128#32
  let v200 : BitVec 32 := Scalar.muli v194 c128_i32_73
  v200
def k0_mult9 : BitVec 32 :=
  let c11264_i32 : BitVec 32 := 11264#32
  c11264_i32
def k0_mult10 : BitVec 32 :=
  let c2816_i32 : BitVec 32 := 2816#32
  c2816_i32
def k0_mult11 : BitVec 32 :=
  let c11776_i32 : BitVec 32 := 11776#32
  c11776_i32
def k0_mult12 : BitVec 32 :=
  let c2944_i32 : BitVec 32 := 2944#32
  c2944_i32
def k0_mult13 : BitVec 32 :=
  let c12288_i32 : BitVec 32 := 12288#32
  c12288_i32
def k0_mult14 : BitVec 32 :=
  let c12288_i32_46 : BitVec 32 := 12288#32
  c12288_i32_46
def k0_mult15 : BitVec 32 :=
  let c3072_i32 : BitVec 32 := 3072#32
  c3072_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_scale" => some (((Real.sqrt 128)⁻¹ : ℝ) : EReal)
  | _ => none
-- ==== ReferenceIdeal.lean ====
abbrev S8192x64 : Shape := ⟨2, ![8192, 64]⟩
abbrev S8192x200x64 : Shape := ⟨3, ![8192, 200, 64]⟩
abbrev S8192x1x200 : Shape := ⟨3, ![8192, 1, 200]⟩
abbrev S64x128 : Shape := ⟨2, ![64, 128]⟩
abbrev S128x64 : Shape := ⟨2, ![128, 64]⟩
abbrev S8192x128 : Shape := ⟨2, ![8192, 128]⟩
abbrev S8192x200x128 : Shape := ⟨3, ![8192, 200, 128]⟩
abbrev S8192x200 : Shape := ⟨2, ![8192, 200]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x200x64, .f32⟩
  | .hbm, ⟨2, _⟩ => ⟨S8192x1x200, .i32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S128x64, .f32⟩
  | .hbm, ⟨7, _⟩ => ⟨S8192x128, .f32⟩
  | .hbm, ⟨8, _⟩ => ⟨S8192x200x128, .f32⟩
  | .hbm, ⟨9, _⟩ => ⟨S8192x200x128, .f32⟩
  | .hbm, ⟨10, _⟩ => ⟨S8192x200, .f32⟩
  | .hbm, ⟨11, _⟩ => ⟨S_, .f32⟩
  | .hbm, ⟨12, _⟩ => ⟨S_, .f32⟩
  | .hbm, ⟨13, _⟩ => ⟨S8192x200, .f32⟩
  | .hbm, ⟨14, _⟩ => ⟨S8192x200, .f32⟩
  | .hbm, ⟨15, _⟩ => ⟨S8192x200, .i32⟩
  | .hbm, ⟨16, _⟩ => ⟨S8192x200, .f32⟩
  | .hbm, ⟨17, _⟩ => ⟨S8192x200, .f32⟩
  | .hbm, ⟨18, _⟩ => ⟨S_, .f32⟩
  | .hbm, ⟨19, _⟩ => ⟨S8192x200, .f32⟩
  | .hbm, ⟨20, _⟩ => ⟨S8192x200, .f32⟩
  | .hbm, ⟨21, _⟩ => ⟨S8192x128, .f32⟩
  | .hbm, ⟨22, _⟩ => ⟨S8192x64, .f32⟩
  | .hbm, ⟨23, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Proof.Selectors.lean ====
/- The two 0/1 matrices of the kernel, read at an index: row `x` of the summing one has its single 1 in column
   `x / 64`, and the spreading one is its transpose. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- The kernel's spelling of "the lane number divided by 64, rounded down", as a word. -/
def laneGroup (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- On the 512 lanes of a chunk it is the quotient (decided lane by lane). -/
theorem laneGroup_eq : ∀ x : Fin 512, laneGroup (BitVec.ofNat 32 x) = BitVec.ofNat 32 (x / 64) := by
  decide +kernel

/-- A select on the equality of two small numbers written as words is an `if` on the numbers. -/
theorem select_words_eq (a b : ℕ) (ha : a < 4096) (hb : b < 4096) (p q : EReal) :
    Scalar.select (IntOp.cmpi CmpIPredicate.eq (BitVec.ofNat 32 a) (BitVec.ofNat 32 b)) p q = if a = b then p else q := by
  have hw : (BitVec.ofNat 32 a = BitVec.ofNat 32 b) ↔ a = b := by
    constructor
    · intro h
      have := congrArg BitVec.toNat h
      simp only [BitVec.toNat_ofNat] at this
      omega
    · rintro rfl; rfl
  by_cases h : a = b
  · subst h; simp [Scalar.select, IntOp.cmpi]
  · have : (BitVec.ofNat 32 a == BitVec.ofNat 32 b) = false := beq_false_of_ne fun e => h (hw.1 e)
    simp [Scalar.select, IntOp.cmpi, h, this]

/-- The summing matrix: lane `x` of a chunk belongs to column `x / 64`. -/
theorem sumSel_at (x : Fin 512) (u : Fin 128) :
    k0_pay8 (F := Ideal) k0_pay7 (iota .tc S512x128 32 [1] iota_S512x128_d1_w32) (ix2 x u)
      = if (x : ℕ) / 64 = u then (1 : EReal) else 0 := by
  pointwise [k0_pay8, k0_pay7]
  have h := laneGroup_eq x
  unfold laneGroup at h
  rw [h, select_words_eq _ _ (by omega) (by omega)]

/-- The spreading matrix: column `u` goes to the 64 lanes `x` with `x / 64 = u`. -/
theorem spreadSel_at (u : Fin 128) (x : Fin 512) :
    k0_pay9 (F := Ideal) (ix2 u x) = if (x : ℕ) / 64 = u then (1 : EReal) else 0 := by
  pointwise [k0_pay9]
  have h := laneGroup_eq x
  unfold laneGroup at h
  rw [h, select_words_eq _ _ (by omega) (by omega)]
  simp only [eq_comm]

end Cert.KernelIdeal.Value

end
-- ==== Proof.Reals.lean ====
/- Real numbers inside the extended reals: finite sums, maxima and 0/1 choices of real numbers stay real. -/
module

public import Idealize.ShloMosaic.PureOps.Ideal

@[expose] public section

noncomputable section

namespace Cert.Reals

/-- A finite sum of reals, taken among the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals. -/
theorem coe_max (a b : ℝ) : ((max a b : ℝ) : EReal) = max (a : EReal) (b : EReal) :=
  EReal.coe_strictMono.monotone.map_max

/-- A choice between 1 and 0. -/
theorem coe_ite (p : Prop) [Decidable p] : ((if p then 1 else 0 : ℝ) : EReal) = if p then (1 : EReal) else 0 := by
  split <;> simp

/-- A sum over a type of lanes is the sum over the numbers below the count. -/
theorem sum_lanes (n : ℕ) (f : ℕ → ℝ) : ∑ x : Fin n, f x = ∑ x ∈ Finset.range n, f x :=
  Fin.sum_univ_eq_sum_range f n

end Cert.Reals

end
-- ==== Proof.Rows.lean ====
/- The equation, over the real numbers and for one row of the batch.  Rows, lanes and positions are plain numbers;
   every sum says how far it runs. -/
module

public import Idealize.ShloMosaic.PureOps.Ideal

@[expose] public section

noncomputable section

namespace Cert.Rows

open Finset

/-- What the weighted history is scored against: the target through both score matrices, scaled. -/
def query (t : ℕ → ℝ) (wq wk : ℕ → ℕ → ℝ) (s : ℝ) (d : ℕ) : ℝ :=
  (∑ e ∈ range 64, t e * ∑ a ∈ range 128, wq e a * wk d a) * s

/-- The score of position `u` of chunk `i`, as the kernel adds it up: all 512 lanes of the chunk, the lanes of the
    other positions taken with factor 0. -/
def score (q H : ℕ → ℝ) (i u : ℕ) : ℝ :=
  ∑ y ∈ range 512, H (512 * i + y) * q y * (if y / 64 = u then 1 else 0)

/-- What chunk `i` adds to lane `x` of the accumulator, `q` the scored query, `H` the row of the history laid flat
    and `M` its row of mask factors, 128 to a chunk. -/
def contrib (q H M : ℕ → ℝ) (i x : ℕ) : ℝ :=
  max (score q H i (x / 64) * M (128 * i + x / 64)) 0 * H (512 * i + x)

/-- The product of the value and output matrices. -/
def valueOut (wv wo : ℕ → ℕ → ℝ) (d e : ℕ) : ℝ := ∑ a ∈ range 128, wv d a * wo a e

/-- The kernel's output row. -/
def kernelRow (t : ℕ → ℝ) (q H M : ℕ → ℝ) (wv wo : ℕ → ℕ → ℝ) (e : ℕ) : ℝ :=
  t e + ∑ x ∈ range 512, (∑ i ∈ range 25, contrib q H M i x) * valueOut wv wo (x % 64) e

/-- The reference's attention weight of position `l`. -/
def weight (t : ℕ → ℝ) (h : ℕ → ℕ → ℝ) (m : ℕ → ℝ) (wq wk : ℕ → ℕ → ℝ) (r : ℝ) (l : ℕ) : ℝ :=
  max ((∑ a ∈ range 128, (∑ d ∈ range 64, t d * wq d a) * ∑ d ∈ range 64, h l d * wk d a) / r * m l) 0

/-- The reference's output row. -/
def refRow (t : ℕ → ℝ) (h : ℕ → ℕ → ℝ) (m : ℕ → ℝ) (wq wk wv wo : ℕ → ℕ → ℝ) (r : ℝ) (e : ℕ) : ℝ :=
  (∑ a ∈ range 128, (∑ l ∈ range 200, weight t h m wq wk r l * ∑ d ∈ range 64, h l d * wv d a) * wo a e) + t e

/-- A sum over `n * k` numbers, taken `k` at a time. -/
theorem sum_tiles (n k : ℕ) (f : ℕ → ℝ) :
    ∑ x ∈ range (k * n), f x = ∑ u ∈ range n, ∑ d ∈ range k, f (k * u + d) := by
  induction n with
  | zero => simp
  | succ n ih => rw [Nat.mul_succ, sum_range_add, ih, sum_range_succ]

/-- A position's score is the product of its history row with the query: the lanes of the other positions drop out. -/
theorem score_eq (q H : ℕ → ℝ) (q' : ℕ → ℝ) (h : ℕ → ℝ) (i u : ℕ) (hu : u < 8)
    (hq : ∀ d < 64, q (64 * u + d) = q' d) (hH : ∀ d < 64, H (512 * i + (64 * u + d)) = h d) :
    score q H i u = ∑ d ∈ range 64, h d * q' d := by
  unfold score
  rw [show (512 : ℕ) = 64 * 8 from rfl, sum_tiles 8 64, sum_eq_single u]
  · refine sum_congr rfl fun d hd => ?_
    have hd := mem_range.1 hd
    rw [if_pos (by omega), mul_one, hq d hd]
    exact congrArg (· * _) (hH d hd)
  · intro v _ hv
    refine sum_eq_zero fun d hd => ?_
    have hd := mem_range.1 hd
    rw [if_neg (by omega), mul_zero]
  · intro hn; exact absurd (mem_range.2 hu) hn

/-- The two orders of contraction give one score. -/
theorem score_assoc (t : ℕ → ℝ) (h : ℕ → ℝ) (wq wk : ℕ → ℕ → ℝ) (r : ℝ) :
    ∑ d ∈ range 64, h d * query t wq wk r⁻¹ d
      = (∑ a ∈ range 128, (∑ d ∈ range 64, t d * wq d a) * ∑ d ∈ range 64, h d * wk d a) / r := by
  have hl : ∀ d, h d * query t wq wk r⁻¹ d = ∑ a ∈ range 128, ∑ e ∈ range 64, t e * wq e a * (h d * wk d a) * r⁻¹ := by
    intro d
    unfold query
    simp only [mul_sum, sum_mul]
    rw [sum_comm]
    exact sum_congr rfl fun a _ => sum_congr rfl fun e _ => by ring
  have hr : ∀ a, (∑ d ∈ range 64, t d * wq d a) * (∑ d ∈ range 64, h d * wk d a)
      = ∑ d ∈ range 64, ∑ e ∈ range 64, t e * wq e a * (h d * wk d a) := by
    intro a
    simp only [mul_sum, sum_mul]
  simp only [hl, hr, div_eq_mul_inv, sum_mul]
  exact sum_comm

/-- THE EQUATION: with the history laid flat, the mask spread 8 to a chunk and the query repeated 8 times, the kernel's
    row is the reference's. -/
theorem kernelRow_eq (t : ℕ → ℝ) (h : ℕ → ℕ → ℝ) (m : ℕ → ℝ) (wq wk wv wo : ℕ → ℕ → ℝ) (r : ℝ) (q H M : ℕ → ℝ)
    (hq : ∀ u < 8, ∀ d < 64, q (64 * u + d) = query t wq wk r⁻¹ d)
    (hH : ∀ l < 200, ∀ d < 64, H (64 * l + d) = h l d)
    (hM : ∀ i < 25, ∀ u < 8, M (128 * i + u) = m (8 * i + u)) (e : ℕ) :
    kernelRow t q H M wv wo e = refRow t h m wq wk wv wo r e := by
  have hc : ∀ i < 25, ∀ u < 8, ∀ d < 64,
      contrib q H M i (64 * u + d) = weight t h m wq wk r (8 * i + u) * h (8 * i + u) d := by
    intro i hi u hu d hd
    have hx : (64 * u + d) / 64 = u := by omega
    have hl : ∀ d < 64, H (512 * i + (64 * u + d)) = h (8 * i + u) d := fun d hd => by
      rw [show 512 * i + (64 * u + d) = 64 * (8 * i + u) + d by ring]
      exact hH _ (by omega) d hd
    unfold contrib weight
    rw [hx, hl d hd, hM i hi u hu, score_eq q H (query t wq wk r⁻¹) (h (8 * i + u)) i u hu (hq u hu) hl, score_assoc]
  have hk : ∑ x ∈ range 512, (∑ i ∈ range 25, contrib q H M i x) * valueOut wv wo (x % 64) e
      = ∑ l ∈ range 200, ∑ d ∈ range 64, weight t h m wq wk r l * h l d * valueOut wv wo d e := by
    rw [show (512 : ℕ) = 64 * 8 from rfl, sum_tiles 8 64, show (200 : ℕ) = 8 * 25 from rfl, sum_tiles 25 8, sum_comm (s := range 25)]
    refine sum_congr rfl fun u hu => ?_
    rw [sum_comm (s := range 25)]
    refine sum_congr rfl fun d hd => ?_
    have hu := mem_range.1 hu
    have hd := mem_range.1 hd
    rw [sum_mul, show (64 * u + d) % 64 = d by omega]
    exact sum_congr rfl fun i hi => by rw [hc i (mem_range.1 hi) u hu d hd]
  unfold kernelRow refRow
  rw [hk, add_comm]
  congr 1
  have hl : ∀ l, ∑ d ∈ range 64, weight t h m wq wk r l * h l d * valueOut wv wo d e
      = ∑ a ∈ range 128, weight t h m wq wk r l * (∑ d ∈ range 64, h l d * wv d a) * wo a e := by
    intro l
    unfold valueOut
    simp only [mul_sum, sum_mul]
    rw [sum_comm]
    exact sum_congr rfl fun a _ => sum_congr rfl fun d _ => by ring
  simp only [hl]
  rw [sum_comm]
  exact sum_congr rfl fun a _ => by rw [sum_mul]

end Cert.Rows

end
-- ==== Proof.Block.lean ====
/- What one step of the kernel computes, at real inputs: the query row, a chunk's scores, what a chunk adds to the
   accumulator, and the output row.  Each is a real number, the one `Rows` names. -/
module

public import proofs.«01_k».proof.Proof.Selectors
public import proofs.«01_k».proof.Proof.Reals
public import proofs.«01_k».proof.Proof.Rows
public import Idealize.ShloMosaic.PureOps.IdealRules

@[expose] public section

set_option maxRecDepth 16384

noncomputable section

open Idealize.ShloMosaic Idealize.ShloMosaic.TcCoe Idealize.SL.Sem

namespace Cert.KernelIdeal.Value

open Cert.KernelIdeal Cert.KernelIdeal.Gen Cert.Reals Cert.Rows

/-- The scale the kernel's literal stands for. -/
theorem scale_eq : Named.named (F := Ideal) κ "inv_scale" (φ := .f32) 0x3DB504F3#32 = (((Real.sqrt 128)⁻¹ : ℝ) : EReal) :=
  IdealRules.named_const.ideal_named_scalar _ _ _ _ rfl

/-- The query row, repeated 8 times over the 512 lanes. -/
theorem query_at (tgt : Vec Ideal S256x64 .f32) (wq wk : Vec Ideal S64x128 .f32) (t : ℕ → ℕ → ℝ) (q k : ℕ → ℕ → ℝ)
    (ht : ∀ (b : Fin 256) (d : Fin 64), tgt (ix2 b d) = (t b d : EReal))
    (hq : ∀ (d : Fin 64) (a : Fin 128), wq (ix2 d a) = (q d a : EReal))
    (hk : ∀ (d : Fin 64) (a : Fin 128), wk (ix2 d a) = (k d a : EReal)) (b : Fin 256) (x : Fin 512) :
    k0_pay6 tgt wq wk (ix2 b x) = (query (t b) q k (Real.sqrt 128)⁻¹ (x % 64) : EReal) := by
  have key : ∀ d : Fin 64, (∑ e : Fin 64, tgt (ix2 b e) * ∑ a : Fin 128, wq (ix2 e a) * wk (ix2 d a))
      * Named.named (F := Ideal) κ "inv_scale" (φ := .f32) 0x3DB504F3#32
      = (query (t b) q k (Real.sqrt 128)⁻¹ d : EReal) := by
    intro d
    have ha : ∀ e : Fin 64, ∑ a : Fin 128, wq (ix2 e a) * wk (ix2 d a)
        = ((∑ a ∈ Finset.range 128, q e a * k d a : ℝ) : EReal) := by
      intro e
      rw [← sum_lanes 128 fun a => q e a * k d a, coe_sum]
      exact Finset.sum_congr rfl fun a _ => by rw [hq, hk, EReal.coe_mul]
    rw [scale_eq]
    unfold query
    rw [← sum_lanes 64 fun e => t b e * ∑ a ∈ Finset.range 128, q e a * k d a, EReal.coe_mul, coe_sum]
    refine congrArg (· * _) (Finset.sum_congr rfl fun e _ => ?_)
    rw [ha, ht, EReal.coe_mul]
  pointwise [k0_pay6]
  repeat' split
  all_goals
    refine (key _).trans ?_
    refine congrArg (fun n : ℕ => (query (t b) q k (Real.sqrt 128)⁻¹ n : EReal)) ?_
    dsimp only
    omega

/-- A chunk's scores. -/
theorem score_at (v11 v : FVec Ideal S256x512 .f32) (q h : ℕ → ℕ → ℝ) (i : ℕ)
    (hq : ∀ (b : Fin 256) (x : Fin 512), v11 (ix2 b x) = (q b x : EReal))
    (hv : ∀ (b : Fin 256) (x : Fin 512), v (ix2 b x) = (h b (512 * i + x) : EReal)) (b : Fin 256) (u : Fin 128) :
    k0_pay2 v11 (k0_pay8 (F := Ideal) k0_pay7 (iota .tc S512x128 32 [1] iota_S512x128_d1_w32)) v (ix2 b u)
      = (score (q b) (h b) i u : EReal) := by
  pointwise [k0_pay2]
  unfold score
  rw [← sum_lanes 512 fun y => h b (512 * i + y) * q b y * (if y / 64 = (u : ℕ) then 1 else 0), coe_sum]
  refine Finset.sum_congr rfl fun y _ => ?_
  rw [sumSel_at, hq, hv, EReal.coe_mul, EReal.coe_mul, coe_ite]

/-- What a chunk adds to the accumulator. -/
theorem spread_at (a : FVec Ideal S256x512 .f32) (s : FVec Ideal S256x128 .f32) (v : Vec Ideal S256x512 .f32)
    (w : Vec Ideal S256x128 .bf16) (acc q h m : ℕ → ℕ → ℝ) (i : ℕ)
    (ha : ∀ (b : Fin 256) (x : Fin 512), a (ix2 b x) = (acc b x : EReal))
    (hs : ∀ (b : Fin 256) (u : Fin 128), s (ix2 b u) = (score (q b) (h b) i u : EReal))
    (hv : ∀ (b : Fin 256) (x : Fin 512), v (ix2 b x) = (h b (512 * i + x) : EReal))
    (hw : ∀ (b : Fin 256) (u : Fin 128), w (ix2 b u) = (m b (128 * i + u) : EReal)) (b : Fin 256) (x : Fin 512) :
    k0_pay4 (k0_pay9 (F := Ideal)) a s v w (ix2 b x) = ((acc b x + contrib (q b) (h b) (m b) i x : ℝ) : EReal) := by
  pointwise [k0_pay4]
  rw [Finset.sum_eq_single (⟨x / 64, by omega⟩ : Fin 128)]
  · rw [ha, hs, hv, hw, spreadSel_at, if_pos rfl, mul_one, EReal.coe_add]
    unfold contrib
    rw [EReal.coe_mul, coe_max, EReal.coe_mul]
    rfl
  · intro u _ hu
    rw [spreadSel_at, if_neg, mul_zero]
    exact fun e => hu (Fin.ext e.symm)
  · exact fun h => absurd (Finset.mem_univ _) h

/-- The product of the value and output matrices. -/
theorem valueOut_at (wv : Vec Ideal S64x128 .f32) (wo : Vec Ideal S128x64 .f32) (v o : ℕ → ℕ → ℝ)
    (hv : ∀ (d : Fin 64) (a : Fin 128), wv (ix2 d a) = (v d a : EReal))
    (ho : ∀ (a : Fin 128) (e : Fin 64), wo (ix2 a e) = (o a e : EReal)) (d e : Fin 64) :
    k0_pay5 wv wo (ix2 d e) = (valueOut v o d e : EReal) := by
  pointwise [k0_pay5]
  unfold valueOut
  rw [← sum_lanes 128 fun a => v d a * o a e, coe_sum]
  exact Finset.sum_congr rfl fun a _ => by rw [hv, ho, EReal.coe_mul]

/-- The last step as the steps before it: the last chunk is added to the two accumulators' sum, and the output is the
    target plus the accumulator times the value-output product, whose rows repeat every 64 lanes. -/
theorem last_at (v0 : Vec Ideal S256x64 .f32) (v7 : FVec Ideal S64x64 .f32) (v11 : FVec Ideal S256x512 .f32)
    (v42 : FVec Ideal S512x128 .bf16) (v73 : FVec Ideal S128x512 .bf16) (v106 v122 : FVec Ideal S256x512 .f32)
    (v125 v133 : Vec Ideal S256x512 .f32) (v137 : Vec Ideal S256x128 .bf16) (b : Fin 256) (e : Fin 64) :
    k0_pay1 v0 v7 v11 v42 v73 v106 v122 v125 v133 v137 (ix2 b e)
      = v0 (ix2 b e) + ∑ x : Fin 512, k0_pay4 v73 (addf v106 v122) (k0_pay2 v11 v42 v125) v133 v137 (ix2 b x)
          * v7 (ix2 ⟨x % 64, by omega⟩ e) := by
  pointwise! [k0_pay1, k0_pay4, k0_pay2]

end Cert.KernelIdeal.Value

end
-- ==== Proof.Trips.lean ====
/- The loop over pairs of chunks: what the four carried arrays hold before trip `k`, by induction on `k`. -/
module

public import proofs.«01_k».proof.Proof.Block
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Reals Cert.Rows

/-- Where the trips read: chunks `2k+2` and `2k+3` for the next scores, `2k` and `2k+1` for the accumulators. -/
theorem offs : ∀ k : Fin k0_t1_loop.trips, (k : ℕ) < 11
    ∧ k0_off1 k = ![0, 512 * (2 * ((k : ℕ) + 1))] ∧ k0_off2 k = ![0, 512 * (2 * ((k : ℕ) + 1) + 1)]
    ∧ k0_off3 k 2#32 = ![0, 512 * (2 * (k : ℕ))] ∧ k0_off3 k 1#32 = ![0, 512 * (2 * (k : ℕ) + 1)]
    ∧ k0_off4 k 2#32 = ![0, 128 * (2 * (k : ℕ))] ∧ k0_off4 k 1#32 = ![0, 128 * (2 * (k : ℕ) + 1)] := by
  decide +kernel

section

variable (x1 : Vec Ideal S256x12800 .f32) (x2 : Vec Ideal S256x3200 .bf16) (v11 : FVec Ideal S256x512 .f32)
variable (q h m : ℕ → ℕ → ℝ)

/-- What is known of the carried arrays before trip `k`. -/
def Inv (k : ℕ) (acc : FVec Ideal S256x512 .f32 × FVec Ideal S256x512 .f32 × FVec Ideal S256x128 .f32 × FVec Ideal S256x128 .f32) :
    Prop :=
  (∀ (b : Fin 256) (x : Fin 512), acc.1 (ix2 b x) = ((∑ i ∈ Finset.range k, contrib (q b) (h b) (m b) (2 * i) x : ℝ) : EReal))
  ∧ (∀ (b : Fin 256) (x : Fin 512), acc.2.1 (ix2 b x) = ((∑ i ∈ Finset.range k, contrib (q b) (h b) (m b) (2 * i + 1) x : ℝ) : EReal))
  ∧ (∀ (b : Fin 256) (u : Fin 128), acc.2.2.1 (ix2 b u) = (score (q b) (h b) (2 * k) u : EReal))
  ∧ (∀ (b : Fin 256) (u : Fin 128), acc.2.2.2 (ix2 b u) = (score (q b) (h b) (2 * k + 1) u : EReal))

/-- One trip keeps it. -/
theorem inv_trip (c : Dev nD) (i : grid0.Coords) (arg1 : Memref sig .tc .vmem S256x64 .f32) (harg1 : arg1.IsWhole) (arg2 : Memref sig .tc .vmem S256x12800 .f32) (harg2 : arg2.IsWhole) (arg3 : Memref sig .tc .vmem S256x3200 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S128x64 .f32) (harg7 : arg7.IsWhole) (arg8 : Memref sig .tc .vmem S256x64 .f32) (harg8 : arg8.IsWhole)
    (v74 : FVec Ideal S256x512 .f32) (v81 : FVec Ideal S256x128 .f32) (w : BitVec 32)
    (hq : ∀ (b : Fin 256) (x : Fin 512), v11 (ix2 b x) = (q b x : EReal))
    (h1 : ∀ (b : Fin 256) (x : Fin 12800), x1 (ix2 b x) = (h b x : EReal))
    (h2 : ∀ (b : Fin 256) (x : Fin 3200), x2 (ix2 b x) = (m b x : EReal))
    (k : Fin k0_t1_loop.trips) (acc : FVec Ideal S256x512 .f32 × FVec Ideal S256x512 .f32 × FVec Ideal S256x128 .f32 × FVec Ideal S256x128 .f32)
    (hacc : Inv q h m k acc) :
    Inv q h m (k + 1) (tripR_k0_t1 (F := Ideal) Variants.none c none i arg1 harg1 arg2 harg2 arg3 harg3 arg4 harg4 arg5 harg5 arg6 harg6 arg7 harg7 arg8 harg8
      v11 (k0_pay8 (F := Ideal) k0_pay7 (iota .tc S512x128 32 [1] iota_S512x128_d1_w32)) (k0_pay9 (F := Ideal)) v74 v81 w
      (harg2.unread x1) (harg3.unread x2) k acc) := by
  obtain ⟨hk, e1, e2, e3, e4, e5, e6⟩ := offs k
  obtain ⟨i0, i1, i2, i3⟩ := hacc
  unfold tripR_k0_t1 trip_k0_t1
  frame_out
  refine ⟨fun b x => ?_, fun b x => ?_, fun b u => ?_, fun b u => ?_⟩
  · rw [Finset.sum_range_succ]
    refine spread_at _ _ _ _ (fun b x => ∑ i ∈ Finset.range (k : ℕ), contrib (q b) (h b) (m b) (2 * i) x) q h m (2 * k) i0 i2 (fun b x => ?_) (fun b u => ?_) b x
    · pointwise [e3]; exact h1 _ _
    · pointwise [e5]; exact h2 _ _
  · rw [Finset.sum_range_succ]
    refine spread_at _ _ _ _ (fun b x => ∑ i ∈ Finset.range (k : ℕ), contrib (q b) (h b) (m b) (2 * i + 1) x) q h m (2 * k + 1) i1 i3 (fun b x => ?_) (fun b u => ?_) b x
    · pointwise [e4]; exact h1 _ _
    · pointwise [e6]; exact h2 _ _
  · refine score_at _ _ q h (2 * (k + 1)) hq (fun b x => ?_) b u
    pointwise [e1]; exact h1 _ _
  · refine score_at _ _ q h (2 * (k + 1) + 1) hq (fun b x => ?_) b u
    pointwise [e2]; exact h1 _ _

/-- So it holds before every trip, and after the last one. -/
theorem inv_trips (c : Dev nD) (i : grid0.Coords) (arg1 : Memref sig .tc .vmem S256x64 .f32) (harg1 : arg1.IsWhole) (arg2 : Memref sig .tc .vmem S256x12800 .f32) (harg2 : arg2.IsWhole) (arg3 : Memref sig .tc .vmem S256x3200 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S128x64 .f32) (harg7 : arg7.IsWhole) (arg8 : Memref sig .tc .vmem S256x64 .f32) (harg8 : arg8.IsWhole)
    (v74 : FVec Ideal S256x512 .f32) (v81 : FVec Ideal S256x128 .f32) (w : BitVec 32)
    (hq : ∀ (b : Fin 256) (x : Fin 512), v11 (ix2 b x) = (q b x : EReal))
    (h1 : ∀ (b : Fin 256) (x : Fin 12800), x1 (ix2 b x) = (h b x : EReal))
    (h2 : ∀ (b : Fin 256) (x : Fin 3200), x2 (ix2 b x) = (m b x : EReal))
    (init : FVec Ideal S256x512 .f32 × FVec Ideal S256x512 .f32 × FVec Ideal S256x128 .f32 × FVec Ideal S256x128 .f32)
    (hinit : Inv q h m 0 init) (k : ℕ) (hk : k ≤ 11) :
    Inv q h m k (st_k0_t1 (F := Ideal) Variants.none c none i arg1 harg1 arg2 harg2 arg3 harg3 arg4 harg4 arg5 harg5 arg6 harg6 arg7 harg7 arg8 harg8
      v11 (k0_pay8 (F := Ideal) k0_pay7 (iota .tc S512x128 32 [1] iota_S512x128_d1_w32)) (k0_pay9 (F := Ideal)) v74 v81 w
      (harg2.unread x1) (harg3.unread x2) init k) := by
  induction k with
  | zero => exact hinit
  | succ k ih =>
    have hlt : k < k0_t1_loop.trips := lt_of_lt_of_eq (by omega : k < 11) (by decide +kernel)
    have hs := st_k0_t1_succ (F := Ideal) Variants.none c none i arg1 harg1 arg2 harg2 arg3 harg3 arg4 harg4 arg5 harg5 arg6 harg6 arg7 harg7 arg8 harg8
      v11 (k0_pay8 (F := Ideal) k0_pay7 (iota .tc S512x128 32 [1] iota_S512x128_d1_w32)) (k0_pay9 (F := Ideal)) v74 v81 w
      (harg2.unread x1) (harg3.unread x2) init ⟨k, hlt⟩
    rw [hs]
    exact inv_trip x1 x2 v11 q h m c i arg1 harg1 arg2 harg2 arg3 harg3 arg4 harg4 arg5 harg5 arg6 harg6 arg7 harg7 arg8 harg8
      v74 v81 w hq h1 h2 ⟨k, hlt⟩ _ (ih (by omega))

end

end Cert.KernelIdeal.Value

end
-- ==== Proof.Stored.lean ====
/- What the body leaves in its output block at one grid point, at real input blocks: the kernel's row, for each of the
   256 rows of the block. -/
module

public import proofs.«01_k».proof.Proof.Trips

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Reals Cert.Rows

variable (m : (ℓ : Loc nD τ sig) → Buf (Elt Ideal) ℓ)

/-- The loop makes 11 trips. -/
theorem trips_eq : Scf.trips (1#32) (Scalar.addi 1#32 11#32) 1#32 = 11 := by decide +kernel

/-- The 25 chunks, as the kernel visits them: the even and the odd ones of the first 22, then the last three. -/
theorem chunks_sum (f : ℕ → ℝ) :
    (∑ i ∈ Finset.range 11, f (2 * i) + f 22) + (∑ i ∈ Finset.range 11, f (2 * i + 1) + f 23) + f 24
      = ∑ i ∈ Finset.range 25, f i := by
  simp only [Finset.sum_range_succ, Finset.sum_range_zero]
  norm_num
  ring

/-- The stored block. -/
theorem stored_at (c : Dev nD) (t : Fin cfg0.N) (x0 : Vec Ideal S256x64 .f32) (x1 : Vec Ideal S256x12800 .f32)
    (x2 : Vec Ideal S256x3200 .bf16) (x3 x4 x5 : Vec Ideal S64x128 .f32) (x6 : Vec Ideal S128x64 .f32)
    (g h mk wq wk wv wo : ℕ → ℕ → ℝ)
    (h0 : ∀ (b : Fin 256) (d : Fin 64), x0 (ix2 b d) = (g b d : EReal))
    (h1 : ∀ (b : Fin 256) (x : Fin 12800), x1 (ix2 b x) = (h b x : EReal))
    (h2 : ∀ (b : Fin 256) (x : Fin 3200), x2 (ix2 b x) = (mk b x : EReal))
    (h3 : ∀ (d : Fin 64) (a : Fin 128), x3 (ix2 d a) = (wq d a : EReal))
    (h4 : ∀ (d : Fin 64) (a : Fin 128), x4 (ix2 d a) = (wk d a : EReal))
    (h5 : ∀ (d : Fin 64) (a : Fin 128), x5 (ix2 d a) = (wv d a : EReal))
    (h6 : ∀ (a : Fin 128) (e : Fin 64), x6 (ix2 a e) = (wo a e : EReal)) (b : Fin 256) (e : Fin 64) :
    out0_A_7 c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) x0 x1 x2 x3 x4 x5 x6 (ix2 b e)
      = (kernelRow (g b) (fun x => query (g b) wq wk (Real.sqrt 128)⁻¹ (x % 64)) (h b) (mk b) wv wo e : EReal) := by
  have hq := query_at x0 x3 x4 g wq wk h0 h3 h4
  obtain ⟨q, hqd⟩ : ∃ q : ℕ → ℕ → ℝ, q = fun b x => query (g b) wq wk (Real.sqrt 128)⁻¹ (x % 64) := ⟨_, rfl⟩
  rw [show (fun x => query (g b) wq wk (Real.sqrt 128)⁻¹ (x % 64)) = q b from hqd ▸ rfl]
  replace hq : ∀ (b : Fin 256) (x : Fin 512), k0_pay6 x0 x3 x4 (ix2 b x) = (q b x : EReal) := hqd ▸ hq
  clear hqd
  frame_out
  rw [trips_eq, last_at, h0]
  generalize hS : st_k0_t1 (F := Ideal) _ _ _ _ _ _ _ _ _ _ _ _ _ _ _ _ _ _ _ _ _ _ _ _ _ _ _ _ _ _ = S
  have hI : Inv q h mk 11 S := by
    rw [← hS]
    refine inv_trips x1 x2 _ q h mk c _ _ _ _ _ _ _ _ _ _ _ _ _ _ _ _ _ _ _ _ hq h1 h2 _ ⟨fun b x => ?_, fun b x => ?_, fun b u => ?_, fun b u => ?_⟩ 11 le_rfl
    · pointwise [k0_pay10]; simp
    · pointwise [k0_pay10]; simp
    · refine score_at _ _ q h 0 hq (fun b x => ?_) b u
      pointwise []; exact h1 _ _
    · refine score_at _ _ q h 1 hq (fun b x => ?_) b u
      pointwise []; exact h1 _ _
  clear hS
  obtain ⟨i0, i1, i2, i3⟩ := hI
  unfold kernelRow
  rw [EReal.coe_add, ← sum_lanes 512 fun x => (∑ i ∈ Finset.range 25, contrib (q b) (h b) (mk b) i x) * valueOut wv wo (x % 64) e, coe_sum]
  refine congrArg (_ + ·) (Finset.sum_congr rfl fun x _ => ?_)
  rw [valueOut_at x5 x6 wv wo h5 h6, EReal.coe_mul]
  refine congrArg (· * _) ?_
  have e0 := spread_at S.1 S.2.2.1 (View.ld x1 (Rect.unit ![0, 11264] ![256, 512] inb_S256x12800_S256x512_0_11264))
    (View.ld x2 (Rect.unit ![0, 2816] ![256, 128] inb_S256x3200_S256x128_0_2816))
    (fun b x => ∑ i ∈ Finset.range 11, contrib (q b) (h b) (mk b) (2 * i) x) q h mk 22 i0 i2
    (fun b x => by pointwise []; exact h1 _ _) (fun b u => by pointwise []; exact h2 _ _)
  have e1 := spread_at S.2.1 S.2.2.2 (View.ld x1 (Rect.unit ![0, 11776] ![256, 512] inb_S256x12800_S256x512_0_11776))
    (View.ld x2 (Rect.unit ![0, 2944] ![256, 128] inb_S256x3200_S256x128_0_2944))
    (fun b x => ∑ i ∈ Finset.range 11, contrib (q b) (h b) (mk b) (2 * i + 1) x) q h mk 23 i1 i3
    (fun b x => by pointwise []; exact h1 _ _) (fun b u => by pointwise []; exact h2 _ _)
  refine (spread_at _ _ _ _ (fun b x => (∑ i ∈ Finset.range 11, contrib (q b) (h b) (mk b) (2 * i) x + contrib (q b) (h b) (mk b) 22 x)
      + (∑ i ∈ Finset.range 11, contrib (q b) (h b) (mk b) (2 * i + 1) x + contrib (q b) (h b) (mk b) 23 x)) q h mk 24
    (fun b x => ?_) (fun b u => ?_) (fun b x => ?_) (fun b u => ?_) b x).trans (congrArg _ (chunks_sum fun i => contrib (q b) (h b) (mk b) i x))
  · rw [EReal.coe_add, ← e0 b x, ← e1 b x]
    rfl
  · refine score_at _ _ q h 24 hq (fun b x => ?_) b u
    pointwise []; exact h1 _ _
  · pointwise []; exact h1 _ _
  · pointwise []; exact h2 _ _

end Cert.KernelIdeal.Value

end
-- ==== Proof.Args.lean ====
/- The arguments as real numbers: an array of finite values read at plain numbers, and what the precondition says. -/
module

public import Idealize.ShloMosaic.Lib.Pointwise
public import proofs.«01_k».proof.Pre_all_finite

@[expose] public section

set_option maxRecDepth 16384

noncomputable section

open Idealize.ShloMosaic

namespace Cert.Args

/-- Every element is a real number. -/
def Finite {s : Shape} (x : FVec Ideal s .f32) : Prop := ∀ i, x i = ((x i).toReal : EReal)

/-- A matrix of the arguments at two numbers; 0 outside it. -/
def real2 {n k : ℕ} (x : FVec Ideal ⟨2, ![n, k]⟩ .f32) (a b : ℕ) : ℝ :=
  if h : a < n ∧ b < k then (x (ix2 ⟨a, h.1⟩ ⟨b, h.2⟩)).toReal else 0

/-- The history at three numbers; 0 outside it. -/
def real3 {n k j : ℕ} (x : FVec Ideal ⟨3, ![n, k, j]⟩ .f32) (a b c : ℕ) : ℝ :=
  if h : a < n ∧ b < k ∧ c < j then (x (ix3 ⟨a, h.1⟩ ⟨b, h.2.1⟩ ⟨c, h.2.2⟩)).toReal else 0

/-- The mask factor of a row and a position: the stored integer; 0 outside the array. -/
def factor {n k : ℕ} (x : IVec ⟨3, ![n, 1, k]⟩ 32) (a b : ℕ) : ℝ :=
  if h : a < n ∧ b < k then ((x (ix3 ⟨a, h.1⟩ 0 ⟨b, h.2⟩)).toInt : ℝ) else 0

theorem real2_at {n k : ℕ} {x : FVec Ideal ⟨2, ![n, k]⟩ .f32} (hx : Finite x) (a : Fin n) (b : Fin k) :
    x (ix2 a b) = (real2 x a b : EReal) := by
  unfold real2
  rw [dif_pos ⟨a.isLt, b.isLt⟩]
  exact hx _

theorem real3_at {n k j : ℕ} {x : FVec Ideal ⟨3, ![n, k, j]⟩ .f32} (hx : Finite x) (a : Fin n) (b : Fin k) (c : Fin j) :
    x (ix3 a b c) = (real3 x a b c : EReal) := by
  unfold real3
  rw [dif_pos ⟨a.isLt, b.isLt, c.isLt⟩]
  exact hx _

/-- The mask converted to a float, at either width: the factor. -/
theorem factor_at {n k : ℕ} (x : IVec ⟨3, ![n, 1, k]⟩ 32) (a : Fin n) (b : Fin k) :
    (((x (ix3 a 0 b)).toInt : ℝ) : EReal) = (factor x a b : EReal) := by
  unfold factor
  rw [dif_pos ⟨a.isLt, b.isLt⟩]

/-- The pattern the precondition compares with is infinity. -/
theorem inf_eq : Ideal.ofBits .f32 0x7F800000#32 = (⊤ : EReal) := by
  simp [Ideal.ofBits, Ideal.ieee]

/-- What one conjunct of the precondition says of its argument. -/
theorem finite_of {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) :
    Finite x := by
  intro i
  have h := congrFun h i
  pointwise at h
  rw [inf_eq] at h
  have hlt : max (x i) (-(x i)) < (⊤ : EReal) := by
    by_contra hn
    rw [show FloatOps.absf (x i) = max (x i) (-(x i)) from rfl, decide_eq_false hn] at h
    exact absurd h (by decide)
  refine (EReal.coe_toReal (ne_of_lt (lt_of_le_of_lt (le_max_left _ _) hlt)) fun hbot => ?_).symm
  rw [hbot] at hlt
  simp at hlt

end Cert.Args

end
-- ==== Proof.Array.lean ====
/- What the result array holds after the kernel's run: at every index, the reference's row over the argument arrays. -/
module

public import proofs.«01_k».proof.Proof.Stored
public import proofs.«01_k».proof.Proof.Args
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Reals Cert.Rows Cert.Args

variable (m : (ℓ : Loc nD τ sig) → Buf (Elt Ideal) ℓ)

/-- Which block each window stages at point `t`: the three batched inputs and the output their `t`-th, the weights whole. -/
theorem idx : ∀ t : Fin cfg0.N, (t : ℕ) < 32 ∧ win0_0.index t = ![(t : ℕ), 0] ∧ win0_1.index t = ![(t : ℕ), 0] ∧ win0_2.index t = ![(t : ℕ), 0]
    ∧ win0_3.index t = ![0, 0] ∧ win0_4.index t = ![0, 0] ∧ win0_5.index t = ![0, 0] ∧ win0_6.index t = ![0, 0]
    ∧ win0_7.index t = ![(t : ℕ), 0] :=
  (by decide +kernel : ∀ t : Fin grid0.N, _)

/-- The argument arrays. -/
abbrev A0 (c : Dev nD) : FVec Ideal S8192x64 .f32 := m ((c : Thread nD τ).loc main_arg0)
abbrev A1 (c : Dev nD) : FVec Ideal S8192x200x64 .f32 := m ((c : Thread nD τ).loc main_arg1)
abbrev A2 (c : Dev nD) : IVec S8192x1x200 32 := m ((c : Thread nD τ).loc main_arg2)
abbrev A3 (c : Dev nD) : FVec Ideal S64x128 .f32 := m ((c : Thread nD τ).loc main_arg3)
abbrev A4 (c : Dev nD) : FVec Ideal S64x128 .f32 := m ((c : Thread nD τ).loc main_arg4)
abbrev A5 (c : Dev nD) : FVec Ideal S64x128 .f32 := m ((c : Thread nD τ).loc main_arg5)
abbrev A6 (c : Dev nD) : FVec Ideal S128x64 .f32 := m ((c : Thread nD τ).loc main_arg6)

theorem blk0 (c : Dev nD) (t : Fin cfg0.N) (h : Finite (A0 m c)) (b : Fin 256) (d : Fin 64) :
    (iblk m c 0 t : Vec Ideal S256x64 .f32) (ix2 b d) = (real2 (A0 m c) (256 * t + b) d : EReal) := by
  have ht := (idx t).1
  refine Eq.trans ?_ (real2_at h ⟨256 * t + b, by omega⟩ d)
  blk_ext [iblk, V, idx t]

/-- The weights are staged whole. -/
theorem blk3 (c : Dev nD) (t : Fin cfg0.N) (h : Finite (A3 m c)) (d : Fin 64) (a : Fin 128) :
    (iblk m c 3 t : Vec Ideal S64x128 .f32) (ix2 d a) = (real2 (A3 m c) d a : EReal) := by
  refine Eq.trans ?_ (real2_at h d a)
  blk_ext [iblk, V, idx t]

theorem blk4 (c : Dev nD) (t : Fin cfg0.N) (h : Finite (A4 m c)) (d : Fin 64) (a : Fin 128) :
    (iblk m c 4 t : Vec Ideal S64x128 .f32) (ix2 d a) = (real2 (A4 m c) d a : EReal) := by
  refine Eq.trans ?_ (real2_at h d a)
  blk_ext [iblk, V, idx t]

theorem blk5 (c : Dev nD) (t : Fin cfg0.N) (h : Finite (A5 m c)) (d : Fin 64) (a : Fin 128) :
    (iblk m c 5 t : Vec Ideal S64x128 .f32) (ix2 d a) = (real2 (A5 m c) d a : EReal) := by
  refine Eq.trans ?_ (real2_at h d a)
  blk_ext [iblk, V, idx t]

theorem blk6 (c : Dev nD) (t : Fin cfg0.N) (h : Finite (A6 m c)) (a : Fin 128) (e : Fin 64) :
    (iblk m c 6 t : Vec Ideal S128x64 .f32) (ix2 a e) = (real2 (A6 m c) a e : EReal) := by
  refine Eq.trans ?_ (real2_at h a e)
  blk_ext [iblk, V, idx t]

/-- The history is staged from its flat copy: lane `x` of a row is entry `x % 64` of position `x / 64`. -/
theorem blk1 (c : Dev nD) (t : Fin cfg0.N) (h : Finite (A1 m c)) (b : Fin 256) (x : Fin 12800) :
    (iblk m c 1 t : Vec Ideal S256x12800 .f32) (ix2 b x) = (real3 (A1 m c) (256 * t + b) (x / 64) (x % 64) : EReal) := by
  have ht := (idx t).1
  refine Eq.trans ?_ (real3_at h ⟨256 * t + b, by omega⟩ ⟨x / 64, by omega⟩ ⟨x % 64, by omega⟩)
  blk_simp [iblk, idx t]
  entry_read
  pointwise []
  blk_ext [idx t]

/-- The mask is staged from its spread copy: lane `x` of a row is the factor of position `8 (x / 128) + x % 8`. -/
theorem blk2 (c : Dev nD) (t : Fin cfg0.N) (b : Fin 256) (x : Fin 3200) :
    (iblk m c 2 t : Vec Ideal S256x3200 .bf16) (ix2 b x) = (factor (A2 m c) (256 * t + b) (8 * (x / 128) + x % 8) : EReal) := by
  have ht := (idx t).1
  refine Eq.trans ?_ (factor_at (A2 m c) ⟨256 * t + b, by omega⟩ ⟨8 * (x / 128) + x % 8, by omega⟩)
  blk_simp [iblk, idx t]
  entry_read
  pointwise []
  refine congrArg (fun w : BitVec 32 => ((w.toInt : ℝ) : EReal)) ?_
  blk_ext [idx t]

/-- The result array. -/
theorem final (c : Dev nD) (h0 : Finite (A0 m c)) (h1 : Finite (A1 m c)) (h3 : Finite (A3 m c)) (h4 : Finite (A4 m c))
    (h5 : Finite (A5 m c)) (h6 : Finite (A6 m c)) :
    (dats m 0 c).arrAt 7 (cfgs 0).N = (fun i : S8192x64.Idx => ((refRow (real2 (A0 m c) (i 0 : Fin 8192)) (real3 (A1 m c) (i 0 : Fin 8192))
      (factor (A2 m c) (i 0 : Fin 8192)) (real2 (A3 m c)) (real2 (A4 m c)) (real2 (A5 m c)) (real2 (A6 m c)) (Real.sqrt 128) (i 1 : Fin 64) : ℝ) : EReal) : FVec Ideal S8192x64 .f32) := by
  refine (dats m 0 c).arrAt_eq_of_covers 7 _ (by decide +kernel) fun t _ y => ?_
  blk_simp
  rw [after0_7]
  unfold outsAt0
  obtain ⟨b, e, rfl⟩ : ∃ (b : Fin 256) (e : Fin 64), y = (ix2 b e : S256x64.Idx) := ⟨y 0, y 1, eq_ix2 y⟩
  have hw := (idx t).2.2.2.2.2.2.2.2
  rw [hw]
  have hk := stored_at c t (iblk m c 0 t) (iblk m c 1 t) (iblk m c 2 t) (iblk m c 3 t) (iblk m c 4 t) (iblk m c 5 t) (iblk m c 6 t)
    (fun b d => real2 (A0 m c) (256 * t + b) d) (fun b x => real3 (A1 m c) (256 * t + b) (x / 64) (x % 64))
    (fun b x => factor (A2 m c) (256 * t + b) (8 * (x / 128) + x % 8)) (real2 (A3 m c)) (real2 (A4 m c)) (real2 (A5 m c)) (real2 (A6 m c))
    (blk0 m c t h0) (blk1 m c t h1) (blk2 m c t) (blk3 m c t h3) (blk4 m c t h4) (blk5 m c t h5) (blk6 m c t h6) b e
  refine hk.trans ?_
  rw [kernelRow_eq (h := real3 (A1 m c) (256 * t + b)) (m := factor (A2 m c) (256 * t + b))
    (wq := real2 (A3 m c)) (wk := real2 (A4 m c)) (r := Real.sqrt 128)]
  · blk_simp
    rw [Nat.mul_comm 256]
  · intro u hu d hd
    rw [show (64 * u + d) % 64 = d by omega]
  · intro l hl d hd
    rw [show (64 * l + d) % 64 = d by omega, show (64 * l + d) / 64 = l by omega]
  · intro i hi u hu
    rw [show (128 * i + u) / 128 = i by omega, show (128 * i + u) % 8 = u by omega]

end Cert.KernelIdeal.Value

end
-- ==== Proof.Ref.lean ====
/- What the reference computes, at real arguments: the reference's row, for each row of the batch. -/
module

public import proofs.«01_k».proof.Proof.Reals
public import proofs.«01_k».proof.Proof.Rows
public import proofs.«01_k».proof.Proof.Args
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Reals Cert.Rows Cert.Args

/-- The pattern the reference takes the root of. -/
theorem dim_eq : Ideal.ofBits .f32 0x43000000#32 = ((128 : ℝ) : EReal) := by
  simp [Ideal.ofBits, Ideal.ieee, -EReal.coe_mul]
  norm_num

/-- The reference's result at an index. -/
theorem ref_at (x0 : FVec Ideal S8192x64 .f32) (x1 : FVec Ideal S8192x200x64 .f32) (x2 : IVec S8192x1x200 32)
    (x3 x4 x5 : FVec Ideal S64x128 .f32) (x6 : FVec Ideal S128x64 .f32) (h0 : Finite x0) (h1 : Finite x1) (h3 : Finite x3)
    (h4 : Finite x4) (h5 : Finite x5) (h6 : Finite x6) (b : Fin 8192) (e : Fin 64) :
    val_main_v13 (F := Ideal) x0 x1 x2 x3 x4 x5 x6 (ix2 b e)
      = (refRow (real2 x0 b) (real3 x1 b) (factor x2 b) (real2 x3) (real2 x4) (real2 x5) (real2 x6) (Real.sqrt 128) e : EReal) := by
  pointwise [val_main_v13, val_main_v12, val_main_v11, val_main_v10, val_main_v9, val_main_v8, val_main_v7, val_main_v6,
    val_main_v5, val_main_v4, val_main_v3, val_main_v2, val_main_v1, val_main_v0, val_main_cst, val_main_call0_cst, val_main_call0_v0]
  have hs : ∀ w : BitVec 32, (FloatOps.sitofp (F := Ideal) FTy.f32 w : EReal) = ((w.toInt : ℝ) : EReal) := fun w => rfl
  have hr : Real.sqrt 128 ≠ 0 := by positivity
  have hq : Ideal.sqrt (Ideal.ofBits .f32 0x43000000#32) = (Real.sqrt 128 : EReal) := by
    rw [dim_eq, Ideal.sqrt_coe, if_neg (by norm_num)]
  have hd : ∀ a : ℝ, Ideal.div (a : EReal) (Real.sqrt 128 : EReal) = ((a / Real.sqrt 128 : ℝ) : EReal) := fun a => by
    rw [Ideal.div_coe hr, ← EReal.coe_mul, mul_one_div]
  simp only [hq, hd, hs, real2_at h0, real3_at h1, factor_at, real2_at h3, real2_at h4, real2_at h5, real2_at h6,
    ← EReal.coe_mul, ← EReal.coe_add, ← coe_sum, ← coe_max, ← EReal.coe_zero]
  unfold refRow weight
  simp only [← Fin.sum_univ_eq_sum_range]

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

/-- The side conditions the precondition's operations state. -/
theorem preFacts : Cert.Pre_all_finite.Facts where
  bcast_S_S8192x64 := by decide
  bcast_S_S8192x200x64 := by decide
  bcast_S_S64x128 := by decide
  bcast_S_S128x64 := by decide

/-- At one result entry the two programs agree: both hold the reference's row. -/
theorem result_eq (m : (ℓ : Loc KernelIdeal.nD KernelIdeal.τ KernelIdeal.sig) → Buf (Elt Ideal) ℓ) (c : Dev KernelIdeal.nD)
    (h0 : Args.Finite (KernelIdeal.Value.A0 m c)) (h1 : Args.Finite (KernelIdeal.Value.A1 m c))
    (h3 : Args.Finite (KernelIdeal.Value.A3 m c)) (h4 : Args.Finite (KernelIdeal.Value.A4 m c))
    (h5 : Args.Finite (KernelIdeal.Value.A5 m c)) (h6 : Args.Finite (KernelIdeal.Value.A6 m c)) :
    ReferenceIdeal.Read.val_main_v13 (F := Ideal) (KernelIdeal.Value.A0 m c) (KernelIdeal.Value.A1 m c) (KernelIdeal.Value.A2 m c)
        (KernelIdeal.Value.A3 m c) (KernelIdeal.Value.A4 m c) (KernelIdeal.Value.A5 m c) (KernelIdeal.Value.A6 m c)
      = (KernelIdeal.Gen.dats m 0 c).arrAt 7 KernelIdeal.cfg0.N := by
  refine Eq.trans (funext fun i => ?_) (KernelIdeal.Value.final m c h0 h1 h3 h4 h5 h6).symm
  obtain ⟨b, e, rfl⟩ : ∃ (b : Fin 8192) (e : Fin 64), i = ix2 b e := ⟨i 0, i 1, eq_ix2 i⟩
  exact ReferenceIdeal.Value.ref_at _ _ _ _ _ _ _ h0 h1 h3 h4 h5 h6 b e

/-- The reference leaves its arguments and, declaring no semaphore, ends with every counter at zero. -/
theorem frame_r : Cert.quiescent_ReferenceIdeal := fun m g _ =>
  θ_run_mono (ReferenceIdeal.Value.run m g) fun r h => ⟨fun c => (h c).2, sem_eq_zero_of_no_sems (by decide) r.2⟩

theorem claim : Cert.Claim := by
  refine ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, frame_r, fun m g _ => frame_r m g trivial,
    IdealRules.named_const.statement Cert.KernelIdeal.κ "inv_scale" .f32 0x3DB504F3#32 (((Real.sqrt 128)⁻¹ : ℝ) : EReal) rfl, ?_⟩
  pair_intro
  · run_from Cert.KernelIdeal.Value.run_blocks m g
  · run_from Cert.ReferenceIdeal.Value.run m' g'
    obtain ⟨h0, h1, h3, h4, h5, h6⟩ := hpre c
    exact (ReferenceIdeal.Read.val_main_v13_eq _ _ _ _ _ _ _).trans (result_eq m c (Args.finite_of _ _ h0) (Args.finite_of _ _ h1)
      (Args.finite_of _ _ h3) (Args.finite_of _ _ h4) (Args.finite_of _ _ h5) (Args.finite_of _ _ h6))

end Cert.Proof

end
